-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_one_mask_finite_weight [hPre_zero_one_mask_finite_weight : Cert.Pre_zero_one_mask_finite_weight.Facts] (m : (ℓ : Loc Cert.KernelIdeal.nD Cert.KernelIdeal.τ Cert.KernelIdeal.sig) → Buf (Elt Ideal) ℓ) : Prop :=
  ∀ c : Dev Cert.KernelIdeal.nD,
    (Cert.Pre_zero_one_mask_finite_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_one_mask_finite_weight [hPre_zero_one_mask_finite_weight : Cert.Pre_zero_one_mask_finite_weight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_one_mask_finite_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_zero_one_mask_finite_weight [hKernelIdeal : Cert.KernelIdeal.Facts] [hPre_zero_one_mask_finite_weight : Cert.Pre_zero_one_mask_finite_weight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_one_mask_finite_weight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_zero_one_mask_finite_weight [hReferenceIdeal : Cert.ReferenceIdeal.Facts] [hPre_zero_one_mask_finite_weight : Cert.Pre_zero_one_mask_finite_weight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_one_mask_finite_weight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_zero_one_mask_finite_weight [hKernelIdeal : Cert.KernelIdeal.Facts] [hReferenceIdeal : Cert.ReferenceIdeal.Facts] [hPre_zero_one_mask_finite_weight : Cert.Pre_zero_one_mask_finite_weight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_one_mask_finite_weight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_zero_one_mask_finite_weight : Cert.Pre_zero_one_mask_finite_weight.Facts),
    quiescent_Kernel (hKernel := hKernel)
    ∧ quiescent_KernelIdeal (hKernelIdeal := hKernelIdeal)
    ∧ quiescent_KernelIdeal_pre_zero_one_mask_finite_weight (hKernelIdeal := hKernelIdeal) (hPre_zero_one_mask_finite_weight := hPre_zero_one_mask_finite_weight)
    ∧ quiescent_ReferenceIdeal (hReferenceIdeal := hReferenceIdeal)
    ∧ quiescent_ReferenceIdeal_pre_zero_one_mask_finite_weight (hReferenceIdeal := hReferenceIdeal) (hPre_zero_one_mask_finite_weight := hPre_zero_one_mask_finite_weight)
    ∧ preserves_Kernel_KernelIdeal
    ∧ algebraic_KernelIdeal_ReferenceIdeal_pre_zero_one_mask_finite_weight (hKernelIdeal := hKernelIdeal) (hReferenceIdeal := hReferenceIdeal) (hPre_zero_one_mask_finite_weight := hPre_zero_one_mask_finite_weight)
-- ==== Pre_zero_one_mask_finite_weight.lean ====
abbrev S256x16x2048 : Shape := ⟨3, ![256, 16, 2048]⟩
abbrev S256x16 : Shape := ⟨2, ![256, 16]⟩
abbrev S768x2048 : Shape := ⟨2, ![768, 2048]⟩
abbrev S768 : Shape := ⟨1, ![768]⟩
abbrev S17x768 : Shape := ⟨2, ![17, 768]⟩
abbrev S2x2048 : Shape := ⟨2, ![2, 2048]⟩
abbrev S_ : Shape := ⟨0, ![]⟩

class Facts : Prop where
  bcast_S_S256x16 : S_.BroadcastsInDim S256x16 (![] : Fin 0 → Fin S256x16.rank)
  reducesTo_S256x16_S_d0_1 : S256x16.ReducesTo [0, 1] S_
  h_S_ : 0 < S_.numel
  bcast_S_S768x2048 : S_.BroadcastsInDim S768x2048 (![] : Fin 0 → Fin S768x2048.rank)
  reducesTo_S768x2048_S_d0_1 : S768x2048.ReducesTo [0, 1] S_

variable [Facts]

def fn {F : FTy → Type} [FloatOps F] (main_arg0 : FVec F S256x16x2048 .f32) (main_arg1 : IVec S256x16 32) (main_arg2 : FVec F S768x2048 .f32) (main_arg3 : FVec F S768 .f32) (main_arg4 : FVec F S17x768 .f32) (main_arg5 : FVec F S2x2048 .f32) (main_arg6 : FVec F S768 .f32) (main_arg7 : FVec F S768 .f32) : IVec S_ 1 :=
  let main_c : IVec S_ 32 := constantI S_ 32 0#32
  let main_v0 : IVec S256x16 32 := broadcastInDim S256x16 ![] bcast_S_S256x16 main_c
  let main_v1 : IVec S256x16 1 := cmpi .eq main_arg1 main_v0
  let main_c_0 : IVec S_ 32 := constantI S_ 32 1#32
  let main_v2 : IVec S256x16 32 := broadcastInDim S256x16 ![] bcast_S_S256x16 main_c_0
  let main_v3 : IVec S256x16 1 := cmpi .eq main_arg1 main_v2
  let main_v4 : IVec S256x16 1 := ori main_v1 main_v3
  let main_c_1 : IVec S_ 1 := constantI S_ 1 1#1
  let main_v5 : IVec S_ 1 := (fun x v => Host.reduce IntOp.andi x v reducesTo_S256x16_S_d0_1 h_S_) main_v4 main_c_1
  let main_v6 : FVec F S768x2048 .f32 := Host.absf main_arg2
  let main_cst : FVec F S_ .f32 := constant S_ .f32 0x7F800000#32
  let main_v7 : FVec F S768x2048 .f32 := broadcastInDim S768x2048 ![] bcast_S_S768x2048 main_cst
  let main_v8 : IVec S768x2048 1 := cmpf .olt main_v6 main_v7
  let main_c_2 : IVec S_ 1 := constantI S_ 1 1#1
  let main_v9 : IVec S_ 1 := (fun x v => Host.reduce IntOp.andi x v reducesTo_S768x2048_S_d0_1 h_S_) main_v8 main_c_2
  let main_v10 : IVec S_ 1 := andi main_v5 main_v9
  main_v10
-- ==== Kernel.lean ====
abbrev S256x16x2048 : Shape := ⟨3, ![256, 16, 2048]⟩
abbrev S256x16 : Shape := ⟨2, ![256, 16]⟩
abbrev S768x2048 : Shape := ⟨2, ![768, 2048]⟩
abbrev S768 : Shape := ⟨1, ![768]⟩
abbrev S17x768 : Shape := ⟨2, ![17, 768]⟩
abbrev S2x2048 : Shape := ⟨2, ![2, 2048]⟩
abbrev S1x768 : Shape := ⟨2, ![1, 768]⟩
abbrev S256x17x768 : Shape := ⟨3, ![256, 17, 768]⟩
abbrev S64x16x2048 : Shape := ⟨3, ![64, 16, 2048]⟩
abbrev S64x16 : Shape := ⟨2, ![64, 16]⟩
abbrev S64x17x768 : Shape := ⟨3, ![64, 17, 768]⟩
abbrev S1x2048 : Shape := ⟨2, ![1, 2048]⟩
abbrev S1x1x2048 : Shape := ⟨3, ![1, 1, 2048]⟩
abbrev S64x16x1 : Shape := ⟨3, ![64, 16, 1]⟩
abbrev S1024x2048 : Shape := ⟨2, ![1024, 2048]⟩
abbrev S1024x768 : Shape := ⟨2, ![1024, 768]⟩
abbrev S64x16x768 : Shape := ⟨3, ![64, 16, 768]⟩
abbrev S64x768 : Shape := ⟨2, ![64, 768]⟩
abbrev S1x1x768 : Shape := ⟨3, ![1, 1, 768]⟩
abbrev S16x768 : Shape := ⟨2, ![16, 768]⟩
abbrev S1x16x768 : Shape := ⟨3, ![1, 16, 768]⟩
abbrev S64 : Shape := ⟨1, ![64]⟩
abbrev S64x1 : Shape := ⟨2, ![64, 1]⟩
abbrev S64x1x768 : Shape := ⟨3, ![64, 1, 768]⟩
abbrev S1024 : Shape := ⟨1, ![1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S256x16x2048, .f32⟩
  | .hbm, ⟨1, _⟩ => ⟨S256x16, .i32⟩
  | .hbm, ⟨2, _⟩ => ⟨S768x2048, .f32⟩
  | .hbm, ⟨3, _⟩ => ⟨S768, .f32⟩
  | .hbm, ⟨4, _⟩ => ⟨S17x768, .f32⟩
  | .hbm, ⟨5, _⟩ => ⟨S2x2048, .f32⟩
  | .hbm, ⟨6, _⟩ => ⟨S768, .f32⟩
  | .hbm, ⟨7, _⟩ => ⟨S768, .f32⟩
  | .hbm, ⟨8, _⟩ => ⟨S1x768, .f32⟩
  | .hbm, ⟨9, _⟩ => ⟨S1x768, .f32⟩
  | .hbm, ⟨10, _⟩ => ⟨S1x768, .f32⟩
  | .hbm, ⟨11, _⟩ => ⟨S256x17x768, .f32⟩
  | .local _ .vmem, ⟨0, _⟩ => ⟨S64x16x2048, .f32⟩
  | .local _ .vmem, ⟨1, _⟩ => ⟨S64x16x2048, .f32⟩
  | .local _ .vmem, ⟨2, _⟩ => ⟨S64x16, .i32⟩
  | .local _ .vmem, ⟨3, _⟩ => ⟨S64x16, .i32⟩
  | .local _ .vmem, ⟨4, _⟩ => ⟨S768x2048, .f32⟩
  | .local _ .vmem, ⟨5, _⟩ => ⟨S1x768, .f32⟩
  | .local _ .vmem, ⟨6, _⟩ => ⟨S17x768, .f32⟩
  | .local _ .vmem, ⟨7, _⟩ => ⟨S2x2048, .f32⟩
  | .local _ .vmem, ⟨8, _⟩ => ⟨S1x768, .f32⟩
  | .local _ .vmem, ⟨9, _⟩ => ⟨S1x768, .f32⟩
  | .local _ .vmem, ⟨10, _⟩ => ⟨S64x17x768, .f32⟩
  | .local _ .vmem, ⟨11, _⟩ => ⟨S64x17x768, .f32⟩
  | _, _ => ⟨S256x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S17x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x17x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S256x16x2048 : Shape := ⟨3, ![256, 16, 2048]⟩
abbrev S256x16 : Shape := ⟨2, ![256, 16]⟩
abbrev S768x2048 : Shape := ⟨2, ![768, 2048]⟩
abbrev S768 : Shape := ⟨1, ![768]⟩
abbrev S17x768 : Shape := ⟨2, ![17, 768]⟩
abbrev S2x2048 : Shape := ⟨2, ![2, 2048]⟩
abbrev S_ : Shape := ⟨0, ![]⟩
abbrev S1 : Shape := ⟨1, ![1]⟩
abbrev S2048 : Shape := ⟨1, ![2048]⟩
abbrev S256x16x1 : Shape := ⟨3, ![256, 16, 1]⟩
abbrev S1x1x1 : Shape := ⟨3, ![1, 1, 1]⟩
abbrev S256x2048 : Shape := ⟨2, ![256, 2048]⟩
abbrev S256x1x2048 : Shape := ⟨3, ![256, 1, 2048]⟩
abbrev S256x17x2048 : Shape := ⟨3, ![256, 17, 2048]⟩
abbrev S2048x768 : Shape := ⟨2, ![2048, 768]⟩
abbrev S256x17x768 : Shape := ⟨3, ![256, 17, 768]⟩
abbrev S1x1x768 : Shape := ⟨3, ![1, 1, 768]⟩
abbrev S1x17x768 : Shape := ⟨3, ![1, 17, 768]⟩
abbrev S256x17 : Shape := ⟨2, ![256, 17]⟩
abbrev S256x17x1 : Shape := ⟨3, ![256, 17, 1]⟩

abbrev nBuf : Space → Nat
  | .hbm => 88
  | .vmem => 0
  | .smem => 0
  | _ => 0

abbrev bufTy : (tb : Table) → Fin (tcTables nBuf tb) → BufTy
  | .hbm, ⟨0, _⟩ => ⟨S256x16x2048, .f32⟩
  | .hbm, ⟨1, _⟩ => ⟨S256x16, .i32⟩
  | .hbm, ⟨2, _⟩ => ⟨S768x2048, .f32⟩
  | .hbm, ⟨3, _⟩ => ⟨S768, .f32⟩
  | .hbm, ⟨4, _⟩ => ⟨S17x768, .f32⟩
  | .hbm, ⟨5, _⟩ => ⟨S2x2048, .f32⟩
  | .hbm, ⟨6, _⟩ => ⟨S768, .f32⟩
  | .hbm, ⟨7, _⟩ => ⟨S768, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S2048, .f32⟩
  | .hbm, ⟨12, _⟩ => ⟨S2x2048, .f32⟩
  | .hbm, ⟨13, _⟩ => ⟨S_, .i32⟩
  | .hbm, ⟨14, _⟩ => ⟨S256x16, .i32⟩
  | .hbm, ⟨15, _⟩ => ⟨S256x16, .i1⟩
  | .hbm, ⟨16, _⟩ => ⟨S_, .i32⟩
  | .hbm, ⟨17, _⟩ => ⟨S256x16, .i32⟩
  | .hbm, ⟨18, _⟩ => ⟨S256x16, .i32⟩
  | .hbm, ⟨19, _⟩ => ⟨S256x16, .i32⟩
  | .hbm, ⟨20, _⟩ => ⟨S256x16x1, .i32⟩
  | .hbm, ⟨21, _⟩ => ⟨S1, .i32⟩
  | .hbm, ⟨22, _⟩ => ⟨S_, .i32⟩
  | .hbm, ⟨23, _⟩ => ⟨S256x16x1, .i32⟩
  | .hbm, ⟨24, _⟩ => ⟨S256x16x1, .i1⟩
  | .hbm, ⟨25, _⟩ => ⟨S1x1x1, .i32⟩
  | .hbm, ⟨26, _⟩ => ⟨S256x16x1, .i32⟩
  | .hbm, ⟨27, _⟩ => ⟨S256x16x1, .i1⟩
  | .hbm, ⟨28, _⟩ => ⟨S256x16x1, .i1⟩
  | .hbm, ⟨29, _⟩ => ⟨S_, .i1⟩
  | .hbm, ⟨30, _⟩ => ⟨S256x16, .i1⟩
  | .hbm, ⟨31, _⟩ => ⟨S256x16x2048, .f32⟩
  | .hbm, ⟨32, _⟩ => ⟨S256x16x2048, .i1⟩
  | .hbm, ⟨33, _⟩ => ⟨S_, .f32⟩
  | .hbm, ⟨34, _⟩ => ⟨S256x16x2048, .f32⟩
  | .hbm, ⟨35, _⟩ => ⟨S256x16x2048, .f32⟩
  | .hbm, ⟨36, _⟩ => ⟨S_, .i32⟩
  | .hbm, ⟨37, _⟩ => ⟨S256x16, .i32⟩
  | .hbm, ⟨38, _⟩ => ⟨S256x16, .i32⟩
  | .hbm, ⟨39, _⟩ => ⟨S256x16, .f32⟩
  | .hbm, ⟨40, _⟩ => ⟨S256x16x1, .f32⟩
  | .hbm, ⟨41, _⟩ => ⟨S256x16x2048, .f32⟩
  | .hbm, ⟨42, _⟩ => ⟨S256x16x2048, .f32⟩
  | .hbm, ⟨43, _⟩ => ⟨S256x16x2048, .f32⟩
  | .hbm, ⟨44, _⟩ => ⟨S_, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x1x2048, .f32⟩
  | .hbm, ⟨50, _⟩ => ⟨S256x17x2048, .f32⟩
  | .hbm, ⟨51, _⟩ => ⟨S2048x768, .f32⟩
  | .hbm, ⟨52, _⟩ => ⟨S256x17x768, .f32⟩
  | .hbm, ⟨53, _⟩ => ⟨S1x1x768, .f32⟩
  | .hbm, ⟨54, _⟩ => ⟨S256x17x768, .f32⟩
  | .hbm, ⟨55, _⟩ => ⟨S256x17x768, .f32⟩
  | .hbm, ⟨56, _⟩ => ⟨S1x17x768, .f32⟩
  | .hbm, ⟨57, _⟩ => ⟨S256x17x768, .f32⟩
  | .hbm, ⟨58, _⟩ => ⟨S256x17x768, .f32⟩
  | .hbm, ⟨59, _⟩ => ⟨S_, .f32⟩
  | .hbm, ⟨60, _⟩ => ⟨S256x17, .f32⟩
  | .hbm, ⟨61, _⟩ => ⟨S256x17x1, .f32⟩
  | .hbm, ⟨62, _⟩ => ⟨S_, .f32⟩
  | .hbm, ⟨63, _⟩ => ⟨S256x17x1, .f32⟩
  | .hbm, ⟨64, _⟩ => ⟨S256x17x1, .f32⟩
  | .hbm, ⟨65, _⟩ => ⟨S256x17x768, .f32⟩
  | .hbm, ⟨66, _⟩ => ⟨S256x17x768, .f32⟩
  | .hbm, ⟨67, _⟩ => ⟨S256x17x768, .f32⟩
  | .hbm, ⟨68, _⟩ => ⟨S_, .f32⟩
  | .hbm, ⟨69, _⟩ => ⟨S256x17, .f32⟩
  | .hbm, ⟨70, _⟩ => ⟨S256x17x1, .f32⟩
  | .hbm, ⟨71, _⟩ => ⟨S_, .f32⟩
  | .hbm, ⟨72, _⟩ => ⟨S256x17x1, .f32⟩
  | .hbm, ⟨73, _⟩ => ⟨S256x17x1, .f32⟩
  | .hbm, ⟨74, _⟩ => ⟨S256x17x768, .f32⟩
  | .hbm, ⟨75, _⟩ => ⟨S256x17x768, .f32⟩
  | .hbm, ⟨76, _⟩ => ⟨S_, .f32⟩
  | .hbm, ⟨77, _⟩ => ⟨S256x17x1, .f32⟩
  | .hbm, ⟨78, _⟩ => ⟨S256x17x1, .f32⟩
  | .hbm, ⟨79, _⟩ => ⟨S256x17x1, .f32⟩
  | .hbm, ⟨80, _⟩ => ⟨S256x17x768, .f32⟩
  | .hbm, ⟨81, _⟩ => ⟨S256x17x768, .f32⟩
  | .hbm, ⟨82, _⟩ => ⟨S1x1x768, .f32⟩
  | .hbm, ⟨83, _⟩ => ⟨S256x17x768, .f32⟩
  | .hbm, ⟨84, _⟩ => ⟨S256x17x768, .f32⟩
  | .hbm, ⟨85, _⟩ => ⟨S1x1x768, .f32⟩
  | .hbm, ⟨86, _⟩ => ⟨S256x17x768, .f32⟩
  | .hbm, ⟨87, _⟩ => ⟨S256x17x768, .f32⟩
  | _, _ => ⟨S256x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_3 : Ref sig .tc := ⟨.hbm, 59, rfl⟩
abbrev main_v24 : Ref sig .tc := ⟨.hbm, 60, rfl⟩
abbrev main_v25 : Ref sig .tc := ⟨.hbm, 61, rfl⟩
abbrev main_cst_4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_cst_6 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩

abbrev nD : Nat := 1
abbrev τ : Topo := Topo.v7x

variable {F : FTy → Type} [FloatOps F]
-- ==== Proof.Math.lean ====
/-
  The arithmetic of extended reals that the proof needs, with no program in it: which sums and products are infinite, what
  layer normalisation makes of a row that holds an infinite entry, that dividing by the square root is multiplying by its
  reciprocal, and that the projection of a mean is the mean of the projections wherever no infinity takes part.
-/
module

public import Idealize.ShloMosaic.PureOps.Ideal
public import Idealize.ShloMosaic.PureOps.Ideal.Laws
public import Mathlib.Data.EReal.Operations
public import Mathlib.Data.EReal.Inv
public import Mathlib.Algebra.BigOperators.Ring.Finset
public import Mathlib.Tactic.Positivity
public import Mathlib.Tactic.FieldSimp
public import Mathlib.Tactic.Ring
public import Mathlib.Tactic.NormNum

@[expose] public section

noncomputable section

namespace Cert.Emb

open Idealize.ShloMosaic

/-! ## The three constants -/

/-- The f32 word of 16, read as an extended real: the number of shots a mean runs over. -/
abbrev shots : EReal := Ideal.ofBits .f32 0x41800000#32
/-- The f32 word of 768, read as an extended real: the width of a row. -/
abbrev width : EReal := Ideal.ofBits .f32 0x44400000#32
/-- The f32 word nearest to `1e-12`, read as an extended real: what is added to a variance. -/
abbrev tiny : EReal := Ideal.ofBits .f32 0x2B8CBCCC#32

/-- The word of 16 is the real number 16. -/
theorem shots_eq : shots = ((16 : ℝ) : EReal) := by
  simp [shots, Ideal.ofBits, Ideal.ieee, -EReal.coe_mul]; norm_num

/-- The word of 768 is the real number 768. -/
theorem width_eq : width = ((768 : ℝ) : EReal) := by
  simp [width, Ideal.ofBits, Ideal.ieee, -EReal.coe_mul]; norm_num

/-- The word added to a variance is positive. -/
theorem tiny_pos : 0 < tiny := by
  simp [tiny, Ideal.ofBits, Ideal.ieee, -EReal.coe_mul]

/-- Dividing by a positive real number is multiplying by its inverse. -/
theorem div_coe (x : EReal) {r : ℝ} (hr : 0 < r) : Ideal.div x (r : EReal) = x * ((r⁻¹ : ℝ) : EReal) := by
  unfold Ideal.div
  rw [if_neg (by simpa using hr.ne'), EReal.coe_inv]

/-! ## Infinite values -/

/-- `x` is one of the two infinities. -/
def Inf (x : EReal) : Prop := x = ⊤ ∨ x = ⊥

/-- A value that is not infinite is a real number. -/
theorem coe_of_not_inf {x : EReal} (h : ¬ Inf x) : ((x.toReal : ℝ) : EReal) = x :=
  EReal.coe_toReal (fun e => h (.inl e)) (fun e => h (.inr e))

/-- An infinite value plus anything is infinite. -/
theorem Inf.add_right {x : EReal} (h : Inf x) (y : EReal) : Inf (x + y) := by
  unfold Inf at *
  rcases h with rfl | rfl
  · induction y <;> simp
  · simp

/-- Anything plus an infinite value is infinite. -/
theorem Inf.add_left {y : EReal} (h : Inf y) (x : EReal) : Inf (x + y) := by
  rw [add_comm]; exact h.add_right x

/-- Anything minus an infinite value is infinite. -/
theorem Inf.sub_left {y : EReal} (h : Inf y) (x : EReal) : Inf (x - y) := by
  rw [sub_eq_add_neg]
  refine Inf.add_left ?_ x
  unfold Inf at *
  rcases h with rfl | rfl <;> simp

/-- A sum with an infinite term is infinite. -/
theorem Inf.sum {ι : Type} [DecidableEq ι] {s : Finset ι} {f : ι → EReal} {i : ι} (hi : i ∈ s) (h : Inf (f i)) :
    Inf (∑ k ∈ s, f k) := by
  rw [← Finset.add_sum_erase s f hi]; exact h.add_right _

/-- An infinite value times a real number other than zero is infinite. -/
theorem Inf.mul_coe {x : EReal} (h : Inf x) {r : ℝ} (hr : r ≠ 0) : Inf (x * (r : EReal)) := by
  unfold Inf at *
  rcases lt_or_gt_of_ne hr with hr | hr <;> rcases h with rfl | rfl
  · exact .inr (EReal.top_mul_coe_of_neg hr)
  · exact .inl (EReal.bot_mul_coe_of_neg hr)
  · exact .inl (EReal.top_mul_coe_of_pos hr)
  · exact .inr (EReal.bot_mul_coe_of_pos hr)

/-- An infinite value divided by a positive real number is infinite. -/
theorem Inf.div {x : EReal} (h : Inf x) {r : ℝ} (hr : 0 < r) : Inf (Ideal.div x (r : EReal)) := by
  rw [div_coe x hr]; exact h.mul_coe (inv_ne_zero hr.ne')

/-- The square of an infinite value is `⊤`. -/
theorem Inf.mul_self {x : EReal} (h : Inf x) : x * x = ⊤ := by
  unfold Inf at *
  rcases h with rfl | rfl <;> simp

/-- A square is not negative. -/
theorem mul_self_nonneg' (x : EReal) : 0 ≤ x * x := by
  induction x with
  | bot => simp
  | top => simp
  | coe r => rw [← EReal.coe_mul]; exact EReal.coe_nonneg.mpr (mul_self_nonneg r)

/-! ## Layer normalisation of one row -/

/-- The mean of a row. -/
def mean (h : Fin 768 → EReal) : EReal := Ideal.div (∑ k, h k) width

/-- What the two programs take the root of: the mean of the squared deviations of a row, plus the small constant. -/
def spread (h : Fin 768 → EReal) : EReal :=
  Ideal.div (∑ k, (h k - mean h) * (h k - mean h)) width + tiny

/-- Layer normalisation of a row as the kernel spells it: the deviation times the reciprocal root. -/
def normMul (h : Fin 768 → EReal) (g b : EReal) (j : Fin 768) : EReal :=
  (h j - mean h) * Ideal.rsqrt (spread h) * g + b

/-- Layer normalisation of a row as the reference spells it: the deviation divided by the root. -/
def normDiv (h : Fin 768 → EReal) (g b : EReal) (j : Fin 768) : EReal :=
  Ideal.div (h j - mean h) (Ideal.sqrt (spread h)) * g + b

/-- What the root is taken of is positive. -/
theorem spread_pos (h : Fin 768 → EReal) : 0 < spread h := by
  have h0 : 0 ≤ Ideal.div (∑ k, (h k - mean h) * (h k - mean h)) width := by
    rw [width_eq, div_coe _ (by norm_num)]
    exact mul_nonneg (Finset.sum_nonneg fun k _ => mul_self_nonneg' _) (EReal.coe_nonneg.mpr (by norm_num))
  exact lt_of_lt_of_le tiny_pos (le_add_of_nonneg_left h0)

/-- The root of `⊤` is `⊤`, -/
theorem sqrt_top : Ideal.sqrt ⊤ = ⊤ := rfl
/-- its reciprocal root zero; -/
theorem rsqrt_top : Ideal.rsqrt ⊤ = 0 := rfl
/-- the root of a real number that is not negative is the real root, -/
theorem sqrt_coe {r : ℝ} (hr : 0 ≤ r) : Ideal.sqrt (r : EReal) = ((√r : ℝ) : EReal) := if_neg (not_lt.mpr hr)
/-- and the reciprocal root of a positive one is its inverse. -/
theorem rsqrt_coe {r : ℝ} (hr : 0 < r) : Ideal.rsqrt (r : EReal) = (((√r)⁻¹ : ℝ) : EReal) :=
  (if_neg (not_lt.mpr hr.le)).trans (if_neg hr.ne')

/-- Dividing by the root of a positive value is multiplying by its reciprocal root. -/
theorem div_sqrt (x : EReal) {v : EReal} (hv : 0 < v) : Ideal.div x (Ideal.sqrt v) = x * Ideal.rsqrt v := by
  induction v with
  | bot => exact absurd hv (by simp)
  | top => rw [sqrt_top, rsqrt_top, Ideal.div, if_neg EReal.top_ne_zero, EReal.inv_top]
  | coe r =>
    have hr : 0 < r := EReal.coe_pos.mp hv
    have hs : 0 < √r := Real.sqrt_pos.mpr hr
    rw [sqrt_coe hr.le, rsqrt_coe hr, div_coe _ hs]

/-- The two spellings of layer normalisation agree on every row, infinite entries included. -/
theorem normDiv_eq (h : Fin 768 → EReal) (g b : EReal) (j : Fin 768) : normDiv h g b j = normMul h g b j := by
  unfold normDiv normMul
  rw [div_sqrt _ (spread_pos h)]

/-- A row with an infinite entry normalises to the shift alone: its mean is infinite, so every squared deviation is `⊤`, the
    spread is `⊤` and the reciprocal root is zero. -/
theorem normMul_of_inf {h : Fin 768 → EReal} {k : Fin 768} (hk : Inf (h k)) (g b : EReal) (j : Fin 768) :
    normMul h g b j = b := by
  have hm : Inf (mean h) := by
    unfold mean; rw [width_eq]; exact (Inf.sum (Finset.mem_univ k) hk).div (by norm_num)
  have hs : spread h = ⊤ := by
    unfold spread
    have e : ∀ i, (h i - mean h) * (h i - mean h) = ⊤ := fun i => (hm.sub_left (h i)).mul_self
    have e2 : ∑ i, (h i - mean h) * (h i - mean h) = ⊤ := by
      have hn : (0 : EReal) ≤ ∑ i ∈ Finset.univ.erase k, (h i - mean h) * (h i - mean h) :=
        Finset.sum_nonneg fun i _ => mul_self_nonneg' _
      rw [← Finset.add_sum_erase _ _ (Finset.mem_univ k), e k]
      exact EReal.top_add_of_ne_bot fun hb => absurd (hb ▸ hn) (by simp)
    rw [e2, width_eq, div_coe _ (by norm_num), EReal.top_mul_coe_of_pos (by norm_num)]
    exact EReal.top_add_of_ne_bot fun hb => absurd (hb ▸ tiny_pos) (by simp)
  unfold normMul
  rw [hs, rsqrt_top, mul_zero, zero_mul, zero_add]

/-! ## The projection of a mean and the mean of the projections -/

/-- Real numbers summed are summed as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {K : ℕ} (x : Fin 16 → Fin K → EReal)

/-- The reference's order: the mean over the shots first, then the projection by the weights `w`. -/
def projMean (w : Fin K → EReal) : EReal := ∑ k, Ideal.div (∑ s, x s k) shots * w k

/-- The kernel's order: every shot projected by the weights `w`, then the mean of the projections. -/
def meanProj (w : Fin K → EReal) : EReal := Ideal.div (∑ s, ∑ k, x s k * w k) shots

/-- Where every column that holds an infinite entry has weight zero, the two orders agree. -/
theorem projMean_eq (w : Fin K → ℝ) (h : ∀ s k, Inf (x s k) → w k = 0) :
    projMean x (fun k => (w k : EReal)) = meanProj x (fun k => (w k : EReal)) := by
  have e1 : ∀ k, Ideal.div (∑ s, x s k) shots * (w k : EReal)
      = (((∑ s, (x s k).toReal) * 16⁻¹ * w k : ℝ) : EReal) := by
    intro k
    by_cases hk : w k = 0
    · rw [hk]; simp
    · have hr : ∀ s, x s k = (((x s k).toReal : ℝ) : EReal) := fun s =>
        (coe_of_not_inf fun hi => hk (h s k hi)).symm
      rw [Finset.sum_congr rfl fun s _ => hr s, ← coe_sum, shots_eq, div_coe _ (by norm_num), ← EReal.coe_mul, ← EReal.coe_mul]
  have e2 : ∀ s k, x s k * (w k : EReal) = (((x s k).toReal * w k : ℝ) : EReal) := by
    intro s k
    by_cases hk : w k = 0
    · rw [hk]; simp
    · rw [EReal.coe_mul, coe_of_not_inf fun hi => hk (h s k hi)]
  unfold projMean meanProj
  rw [Finset.sum_congr rfl fun k _ => e1 k, ← coe_sum,
    Finset.sum_congr rfl fun s _ => (Finset.sum_congr rfl fun k _ => e2 s k).trans (coe_sum _ _).symm, ← coe_sum,
    shots_eq, div_coe _ (by norm_num), ← EReal.coe_mul]
  congr 1
  rw [Finset.sum_comm, Finset.sum_mul]
  refine Finset.sum_congr rfl fun k _ => ?_
  rw [← Finset.sum_mul]; ring

/-- With an infinite entry in a column of real nonzero weight, the projection of the mean is infinite. -/
theorem projMean_inf (w : Fin K → ℝ) {s : Fin 16} {k : Fin K} (hx : Inf (x s k)) (hw : w k ≠ 0) :
    Inf (projMean x (fun k => (w k : EReal))) := by
  unfold projMean
  refine Inf.sum (Finset.mem_univ k) ?_
  rw [shots_eq]
  exact ((Inf.sum (f := fun s => x s k) (Finset.mem_univ s) hx).div (by norm_num)).mul_coe hw

/-- With an infinite entry in a column of real nonzero weight, the mean of the projections is infinite. -/
theorem meanProj_inf (w : Fin K → ℝ) {s : Fin 16} {k : Fin K} (hx : Inf (x s k)) (hw : w k ≠ 0) :
    Inf (meanProj x (fun k => (w k : EReal))) := by
  unfold meanProj
  rw [shots_eq]
  refine (Inf.sum (f := fun s => ∑ k, x s k * (w k : EReal)) (Finset.mem_univ s) ?_).div (by norm_num)
  exact Inf.sum (f := fun k => x s k * (w k : EReal)) (Finset.mem_univ k) (hx.mul_coe hw)

/-- Layer normalisation does not see the order in which the summary row was formed, for finite weights: either the two rows
    are equal entry by entry, or both hold an infinite entry and both normalise to the shift. `bias` and `pos` are what is
    added to the row before it is normalised. -/
theorem norm_summary (w : Fin 768 → Fin K → EReal) (hw : ∀ j k, ¬ Inf (w j k)) (bias pos : Fin 768 → EReal)
    (g b : EReal) (j : Fin 768) :
    normMul (fun i => projMean x (w i) + bias i + pos i) g b j
      = normMul (fun i => meanProj x (w i) + bias i + pos i) g b j := by
  have ew : ∀ i, w i = fun k => (((w i k).toReal : ℝ) : EReal) := fun i => funext fun k => (coe_of_not_inf (hw i k)).symm
  by_cases hA : ∀ i s k, Inf (x s k) → (w i k).toReal = 0
  · have e : (fun i => projMean x (w i) + bias i + pos i) = fun i => meanProj x (w i) + bias i + pos i := by
      funext i
      rw [ew i, projMean_eq x _ (hA i)]
    rw [e]
  · push Not at hA
    obtain ⟨i, s, k, hx, hk⟩ := hA
    have h1 : Inf (projMean x (w i) + bias i + pos i) := by
      rw [ew i]; exact ((projMean_inf x _ hx hk).add_right _).add_right _
    have h2 : Inf (meanProj x (w i) + bias i + pos i) := by
      rw [ew i]; exact ((meanProj_inf x _ hx hk).add_right _).add_right _
    rw [normMul_of_inf (k := i) h1, normMul_of_inf (k := i) h2]

end Cert.Emb

end
-- ==== Proof.Rows.lean ====
/-
  One batch entry of the embedding, in coordinates: the shots after masking, and the seventeen rows the kernel makes of them,
  the summary row first and then a row per shot. No program is mentioned here.
-/
module

public import proofs.«01_k».proof.Proof.Math

@[expose] public section

noncomputable section

namespace Cert.Emb

/-- The shots of one batch entry after masking: where the mask word is zero the shot itself, elsewhere the learned vector. -/
def masked (shot : Fin 16 → Fin 2048 → EReal) (mask : Fin 16 → BitVec 32) (learned : Fin 2048 → EReal)
    (s : Fin 16) (k : Fin 2048) : EReal :=
  if mask s = 0#32 then shot s k else learned k

/-- The seventeen rows of one batch entry: row 0 normalises the mean of the projected shots, row `s + 1` the projection of
    shot `s`, each after the bias and the row's position are added. -/
def outRow (x : Fin 16 → Fin 2048 → EReal) (w : Fin 768 → Fin 2048 → EReal) (bias : Fin 768 → EReal)
    (pos : Fin 17 → Fin 768 → EReal) (g b : Fin 768 → EReal) (r : Fin 17) (j : Fin 768) : EReal :=
  normMul (fun i => (Fin.cases (meanProj x (w i)) (fun s => ∑ k, x s k * w i k) r : EReal) + bias i + pos r i) (g j) (b j) j

/-- The same rows in the reference's spelling: row 0 projects the mean of the shots, and normalising divides by the root. -/
def outRowRef (x : Fin 16 → Fin 2048 → EReal) (w : Fin 768 → Fin 2048 → EReal) (bias : Fin 768 → EReal)
    (pos : Fin 17 → Fin 768 → EReal) (g b : Fin 768 → EReal) (r : Fin 17) (j : Fin 768) : EReal :=
  normDiv (fun i => (Fin.cases (projMean x (w i)) (fun s => ∑ k, x s k * w i k) r : EReal) + bias i + pos r i) (g j) (b j) j

/-- For finite weights the two spellings give the same seventeen rows. -/
theorem outRowRef_eq (x : Fin 16 → Fin 2048 → EReal) (w : Fin 768 → Fin 2048 → EReal) (hw : ∀ i k, ¬ Inf (w i k))
    (bias : Fin 768 → EReal) (pos : Fin 17 → Fin 768 → EReal) (g b : Fin 768 → EReal) (r : Fin 17) (j : Fin 768) :
    outRowRef x w bias pos g b r j = outRow x w bias pos g b r j := by
  unfold outRowRef outRow
  rw [normDiv_eq]
  refine Fin.cases ?_ (fun s => rfl) r
  exact norm_summary x w hw bias (pos 0) (g j) (b j) j

end Cert.Emb

end
-- ==== Proof.Block.lean ====
/-
  What one grid point of the kernel computes: the block it leaves in its output staging buffer, read at an index, is the
  seventeen rows of Rows.lean for the batch entry named by the index.
-/
module

public import proofs.«01_k».proof.Proof.Gen.KernelIdeal.Value
public import proofs.«01_k».proof.Proof.Rows
public import Idealize.ShloMosaic.Lib.Pointwise
public import Idealize.ShloMosaic.Lib.Pipeline.ValueKit

@[expose] public section

set_option maxRecDepth 16384

noncomputable section

namespace Cert.Emb

open Idealize.ShloMosaic Cert.KernelIdeal Cert.KernelIdeal.Gen

/-! ## The values the body computes, at an index -/

/-- A bit that says a word is not zero, used to select, is a case distinction on the word. -/
theorem select_ne_zero (w : BitVec 32) (x y : EReal) :
    Scalar.select (IntOp.cmpi .ne w 0#32) x y = if w = 0#32 then y else x := by
  by_cases h : w = 0#32
  · subst h; rfl
  · rw [if_neg h, show IntOp.cmpi .ne w 0#32 = 1#1 by simp [IntOp.cmpi, h, bne_iff_ne.mpr h]]; rfl

variable (v0 : IVec S64x16 32) (v1 : FVec Ideal S64x16x2048 .f32) (v3 : FVec Ideal S1x2048 .f32)
  (v15 : FVec Ideal S768x2048 .f32) (v22 : FVec Ideal S1x768 .f32) (v25 : FVec Ideal S17x768 .f32)

/-- The masked shots of batch entry `a` of a block. -/
abbrev blockShots (a : Fin 64) : Fin 16 → Fin 2048 → EReal :=
  masked (fun s k => v1 (ix3 a s k)) (fun s => v0 (ix2 a s)) (fun k => v3 (ix2 0 k))

/-- The matrix product at an index: the masked shot against a row of the weights. -/
theorem proj_apply (a : Fin 64) (s : Fin 16) (j : Fin 768) :
    k0_pay2 (F := Ideal) v0 v1 v3 v15 (ix3 a s j) = ∑ k, blockShots v0 v1 v3 a s k * v15 (ix2 j k) := by
  pointwise [k0_pay2]
  exact Finset.sum_congr rfl fun k _ => congrArg (· * _) (select_ne_zero _ _ _)

/-- The shots' rows before normalisation: the projection, the bias and the position of row `s + 1`. -/
theorem hrow_apply (a : Fin 64) (s : Fin 16) (j : Fin 768) :
    k0_pay4 (F := Ideal) v0 v1 v3 v15 v22 v25 (ix3 a s j)
      = ∑ k, blockShots v0 v1 v3 a s k * v15 (ix2 j k) + v22 (ix2 0 j) + v25 (ix2 s.succ j) := by
  rw [← proj_apply v0 v1 v3 v15 a s j]
  pointwise [k0_pay4, k0_pay3]
  congr 3
  exact Fin.ext (Nat.add_comm 1 s.val)

/-- The summary row before normalisation: the mean of the projections, the bias and the position of row 0. -/
theorem hcls_apply (a : Fin 64) (j : Fin 768) :
    k0_pay5 (F := Ideal) v0 v1 v3 v15 v22 v25 (ix2 a j)
      = meanProj (blockShots v0 v1 v3 a) (fun k => v15 (ix2 j k)) + v22 (ix2 0 j) + v25 (ix2 0 j) := by
  unfold meanProj
  rw [Finset.sum_congr rfl fun s _ => (proj_apply v0 v1 v3 v15 a s j).symm]
  pointwise [k0_pay5, k0_pay3]

/-- The normalised summary row, at an index. -/
theorem ln_cls (h : FVec Ideal S64x768 .f32) (g b : FVec Ideal S1x768 .f32) (a : Fin 64) (j : Fin 768) :
    k0_pay8 (F := Ideal) h g b (ix3 a 0 j) = normMul (fun i => h (ix2 a i)) (g (ix2 0 j)) (b (ix2 0 j)) j := by
  unfold normMul spread mean
  pointwise [k0_pay8, k0_pay7]

/-- A shot's normalised row, at an index. -/
theorem ln_row (h : FVec Ideal S64x16x768 .f32) (g b : FVec Ideal S1x768 .f32) (a : Fin 64) (s : Fin 16) (j : Fin 768) :
    k0_pay1 (F := Ideal) g b (k0_pay11 h) (k0_pay12 h) (ix3 a s j)
      = normMul (fun i => h (ix3 a s i)) (g (ix2 0 j)) (b (ix2 0 j)) j := by
  unfold normMul spread mean
  pointwise [k0_pay1, k0_pay11, k0_pay12, k0_pay10, k0_pay9]

/-- A shape cast that keeps the shape changes nothing: the scale row, -/
theorem scale_apply (g : FVec Ideal S1x768 .f32) (j : Fin 768) : k0_pay6 (F := Ideal) g (ix2 0 j) = g (ix2 0 j) := by
  pointwise [k0_pay6]

/-- and the shift row. -/
theorem shift_apply (b : FVec Ideal S1x768 .f32) (j : Fin 768) : k0_pay7 (F := Ideal) b (ix2 0 j) = b (ix2 0 j) := by
  pointwise [k0_pay7]

/-- The part of the two-row table that the body loads is the table's row 1. -/
theorem learned_eq (x5 : Vec Ideal S2x2048 .f32) :
    (View.ld x5 (Rect.unit (s := S2x2048) ![1, 0] ![1, 2048] inb_S2x2048_S1x2048_1_0) : FVec Ideal S1x2048 .f32)
      = fun j : S1x2048.Idx => x5 (ix2 1 (j 1)) := by
  funext j
  refine View.ld_unit_apply_of (S := S2x2048) _ _ _ _ _ _ fun a => ?_
  have h0 : (j 0).val < 1 := (j 0).isLt
  fin_cases a
  · show 1 = 1 + (j 0).val
    omega
  · show (j 1).val = 0 + (j 1).val
    omega

/-! ## The block left in the staging buffer -/

/-- The output block after the body, at an index: the body stores the summary rows into row 0 of every batch entry and the
    shots' rows into rows 1 to 16, so at `(a, r, j)` the block holds row `r` of entry `a`. -/
theorem block_apply (c : Dev nD) (i : grid0.Coords) (arg1 : Memref sig .tc .vmem S64x16x2048 .f32) (harg1 : arg1.IsWhole) (arg2 : Memref sig .tc .vmem S64x16 .i32) (harg2 : arg2.IsWhole) (arg3 : Memref sig .tc .vmem S768x2048 .f32) (harg3 : arg3.IsWhole) (arg4 : Memref sig .tc .vmem S1x768 .f32) (harg4 : arg4.IsWhole) (arg5 : Memref sig .tc .vmem S17x768 .f32) (harg5 : arg5.IsWhole) (arg6 : Memref sig .tc .vmem S2x2048 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S64x17x768 .f32) (harg9 : arg9.IsWhole)
    (x0 : Vec Ideal S64x16x2048 .f32) (x1 : Vec Ideal S64x16 .i32) (x2 : Vec Ideal S768x2048 .f32) (x3 : Vec Ideal S1x768 .f32) (x4 : Vec Ideal S17x768 .f32) (x5 : Vec Ideal S2x2048 .f32) (x6 : Vec Ideal S1x768 .f32) (x7 : Vec Ideal S1x768 .f32)
    (y : S64x17x768.Idx) :
    out0_A_8 (F := Ideal) c i arg1 harg1 arg2 harg2 arg3 harg3 arg4 harg4 arg5 harg5 arg6 harg6 arg7 harg7 arg8 harg8 arg9 harg9 x0 x1 x2 x3 x4 x5 x6 x7 y
      = outRow (masked (fun s k => x0 (ix3 (y 0) s k)) (fun s => x1 (ix2 (y 0) s)) (fun k => x5 (ix2 1 k)))
          (fun i k => x2 (ix2 i k)) (fun i => x3 (ix2 0 i)) (fun r i => x4 (ix2 r i)) (fun i => x6 (ix2 0 i))
          (fun i => x7 (ix2 0 i)) (y 1) (y 2) := by
  frame_out
  canon_tiles x h using View.cover_of_tiledBy _ ![64, 1, 768] (by sl_kernel_rfl) y
  · obtain ⟨a, s, j, rfl⟩ : ∃ a s j, x = ix3 a s j := ⟨x 0, x 1, x 2, eq_ix3 x⟩
    have e0 : y 0 = a := Fin.ext h0
    have e1 : y 1 = s.succ := Fin.ext (h1.trans (Nat.add_comm _ _))
    have e2 : y 2 = j := Fin.ext h2
    rw [learned_eq, e0, e1, e2, ln_row, scale_apply, shift_apply]
    unfold outRow
    simp only [hrow_apply, blockShots, Fin.cases_succ]
    rfl
  · obtain ⟨a, s, j, rfl⟩ : ∃ a s j, x = ix3 a s j := ⟨x 0, x 1, x 2, eq_ix3 x⟩
    obtain rfl : s = 0 := Subsingleton.elim _ _
    have e0 : y 0 = a := Fin.ext h0
    have e1 : y 1 = (0 : Fin 17) := Fin.ext h1
    have e2 : y 2 = j := Fin.ext h2
    rw [learned_eq, e0, e1, e2, ln_cls, scale_apply]
    unfold outRow
    simp only [hcls_apply, blockShots, Fin.cases_zero]
    rfl

end Cert.Emb

end
-- ==== Proof.KernelArray.lean ====
/-
  What the kernel's result array holds after the run: at every index, the row of Rows.lean for the batch entry, row and column
  that the index names, computed from the argument arrays.
-/
module

public import proofs.«01_k».proof.Proof.Block
public import Idealize.ShloMosaic.Lib.Claim

@[expose] public section

set_option maxRecDepth 16384

noncomputable section

namespace Cert.Emb

open Idealize.ShloMosaic Idealize.ShloMosaic.TcCoe Idealize.SL.Sem Cert.KernelIdeal Cert.KernelIdeal.Gen

/-- The embedding as an array, from the eight argument arrays: at `(a, r, j)`, row `r`, column `j` of batch entry `a`. -/
def embed (shot : FVec Ideal S256x16x2048 .f32) (mask : IVec S256x16 32) (w : FVec Ideal S768x2048 .f32)
    (bias : FVec Ideal S768 .f32) (pos : FVec Ideal S17x768 .f32) (table : FVec Ideal S2x2048 .f32)
    (g b : FVec Ideal S768 .f32) (i : S256x17x768.Idx) : EReal :=
  outRow (masked (fun s k => shot (ix3 (i 0) s k)) (fun s => mask (ix2 (i 0) s)) (fun k => table (ix2 1 k)))
    (fun i k => w (ix2 i k)) (fun i => bias (ix1 i)) (fun r i => pos (ix2 r i)) (fun i => g (ix1 i)) (fun i => b (ix1 i))
    (i 1) (i 2)

variable (m : (ℓ : Loc nD τ sig) → Buf (Elt Ideal) ℓ) (c : Dev nD) (t : Fin cfg0.N)

/-- The embedding of the arrays that device `c` starts with. -/
abbrev embedOf : S256x17x768.Idx → EReal :=
  embed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Which block of its array each window holds at grid point `t`: the shots, the mask and the result move along the batch, every
    other array is one block. -/
theorem idx : ∀ t : Fin cfg0.N, win0_0.index t = ![t.val, 0, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] := by
  decide +kernel

/-- The batch entry that entry `a` of point `t`'s block is. -/
abbrev entry (t : Fin cfg0.N) (a : Fin 64) : Fin 256 :=
  ⟨t.val * 64 + a.val, by have := t.isLt; have h : cfg0.N = 4 := N_0; omega⟩

/-- The shots' block at an index. -/
theorem shot_block (a : Fin 64) (s : Fin 16) (k : Fin 2048) :
    iblk m c 0 t (ix3 a s k) = m ((c : Thread nD τ).loc main_arg0) (ix3 (entry t a) s k) := by
  blk_ext! [iblk, V, idx t]

/-- The mask's block at an index. -/
theorem mask_block (a : Fin 64) (s : Fin 16) :
    iblk m c 1 t (ix2 a s) = m ((c : Thread nD τ).loc main_arg1) (ix2 (entry t a) s) := by
  blk_ext! [iblk, V, idx t]

/-- The weights' block at an index. -/
theorem weight_block (i : Fin 768) (k : Fin 2048) :
    iblk m c 2 t (ix2 i k) = m ((c : Thread nD τ).loc main_arg2) (ix2 i k) := by
  blk_ext! [iblk, V, idx t]

/-- The bias's block at an index: the host gives the bias to the kernel as a one-row array. -/
theorem bias_block (i : Fin 768) : iblk m c 3 t (ix2 0 i) = m ((c : Thread nD τ).loc main_arg3) (ix1 i) := by
  blk_ext! [iblk, V, idx t]

/-- The position table's block at an index. -/
theorem pos_block (r : Fin 17) (i : Fin 768) :
    iblk m c 4 t (ix2 r i) = m ((c : Thread nD τ).loc main_arg4) (ix2 r i) := by
  blk_ext! [iblk, V, idx t]

/-- The mask table's block at an index. -/
theorem table_block (r : Fin 2) (k : Fin 2048) :
    iblk m c 5 t (ix2 r k) = m ((c : Thread nD τ).loc main_arg5) (ix2 r k) := by
  blk_ext! [iblk, V, idx t]

/-- The scale's block at an index. -/
theorem scale_block (i : Fin 768) : iblk m c 6 t (ix2 0 i) = m ((c : Thread nD τ).loc main_arg6) (ix1 i) := by
  blk_ext! [iblk, V, idx t]

/-- The shift's block at an index. -/
theorem shift_block (i : Fin 768) : iblk m c 7 t (ix2 0 i) = m ((c : Thread nD τ).loc main_arg7) (ix1 i) := by
  blk_ext! [iblk, V, idx t]

/-- Where an index of point `t`'s block of the result lies in the array. -/
theorem result_block (y : S64x17x768.Idx) :
    ((cfg0.win 8).blk t).view.emb y = ix3 (entry t (y 0)) (y 1) (y 2) := by
  blk_ext! [idx t]

/-- The kernel's result array after the run is the embedding of the argument arrays: the four points' blocks tile it, and at
    an index of its block each point leaves the row that the index names. -/
theorem array_eq : (dats m 0 c).arrAt 8 cfg0.N = embedOf m c := by
  refine (dats m 0 c).arrAt_eq_of_covers 8 _ (by decide +kernel) fun t hf y => ?_
  blk_simp
  rw [after0_8]
  unfold outsAt0
  rw [block_apply, show ((View.whole main_v0).slice (win0_8.rect t)).emb y = ix3 (entry t (y 0)) (y 1) (y 2) from
    result_block t y]
  simp only [weight_block, bias_block, pos_block, table_block, scale_block, shift_block]
  unfold embedOf embed
  congr 2
  · exact funext fun s => funext fun k => shot_block m c t (y 0) s k
  · exact funext fun s => mask_block m c t (y 0) s

/-- The kernel runs, its result array ends at the embedding of its arguments, and its arguments end as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = embedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (array_eq m c), (h c).2⟩) (Value.run_blocks m ρ)

end Cert.Emb

end
-- ==== Proof.RefShots.lean ====
/-
  The reference's masked shots at an index. The reference adds to each shot, multiplied by one minus its mask word, a row of the
  mask table taken at the mask word, after setting the table's row 0 to zero. Where a mask word is 0 or 1, this is the shot
  or the table's row 1.
-/
module

public import proofs.«01_k».proof.Proof.Rows
public import proofs.«01_k».proof.Proof.Gen.ReferenceIdeal.Run
public import Idealize.ShloMosaic.Lib.Pointwise
public import Idealize.ShloMosaic.Lib.ReduceAll
public import Idealize.ShloMosaic.Lib.Routing.OpsSet

@[expose] public section

noncomputable section

namespace Cert.Emb

open Idealize.ShloMosaic Cert.ReferenceIdeal Cert.ReferenceIdeal.Gen

/-- The mask table with row 0 set to zero, as the reference writes it. -/
def zeroedTable (table : FVec Ideal S2x2048 .f32) : FVec Ideal S2x2048 .f32 :=
  Host.scatter scatter_S2x2048_S1_S2048_0_0_0_0 (fun _ b => b) table
    (broadcastInDim S1 ![] bcast_S_S1 (constantI S_ 32 0#32))
    (broadcastInDim S2048 ![] bcast_S_S2048 (constant S_ .f32 0x00000000#32))

/-- The words at which the reference takes rows: the mask's, a negative one counted from the table's end. -/
def takeAt (mask : IVec S256x16 32) : IVec S256x16x1 32 :=
  broadcastInDim S256x16x1 ![0, 1] bcast_S256x16_S256x16x1_0_1
    (select (cmpi .slt mask (broadcastInDim S256x16 ![] bcast_S_S256x16 (constantI S_ 32 0#32)))
      (addi mask (broadcastInDim S256x16 ![] bcast_S_S256x16 (constantI S_ 32 2#32))) mask)

/-- Where the words at which the reference takes rows lie in the table. -/
def takeInside (at_ : IVec S256x16x1 32) : IVec S256x16 1 :=
  Host.reduce IntOp.andi
    (andi (cmpi .sge at_ (broadcastInDim S256x16x1 ![] bcast_S_S256x16x1 (constantI S_ 32 0#32)))
      (cmpi .sle at_ (broadcastInDim S256x16x1 ![0, 1, 2] bcast_S1x1x1_S256x16x1_0_1_2
        (broadcastInDim S1x1x1 ![2] bcast_S1_S1x1x1_2 (constantI S1 32 1#32)))))
    (constantI S_ 1 1#1) reducesTo_S256x16x1_S256x16_d2 h_S_

/-- The rows the reference takes from the table. -/
def taken (table : FVec Ideal S2x2048 .f32) (at_ : IVec S256x16x1 32) : FVec Ideal S256x16x2048 .f32 :=
  select (broadcastInDim S256x16x2048 ![0, 1] bcast_S256x16_S256x16x2048_0_1 (takeInside at_))
    (Host.gather gather_S2x2048_S256x16x1_S256x16x2048_2_0_n_n_0_2_12048 table at_)
    (broadcastInDim S256x16x2048 ![] bcast_S_S256x16x2048 (constant S_ .f32 0x7FC00000#32))

/-- The reference's masked shots. -/
def refShots (shot : FVec Ideal S256x16x2048 .f32) (mask : IVec S256x16 32) (table : FVec Ideal S2x2048 .f32) :
    FVec Ideal S256x16x2048 .f32 :=
  addf (mulf shot (broadcastInDim S256x16x2048 ![0, 1, 2] bcast_S256x16x1_S256x16x2048_0_1_2
      (broadcastInDim S256x16x1 ![0, 1] bcast_S256x16_S256x16x1_0_1
        (sitofp .f32 (subi (broadcastInDim S256x16 ![] bcast_S_S256x16 (constantI S_ 32 1#32)) mask)))))
    (taken (zeroedTable table) (takeAt mask))

/-- Where an update of the scatter lands: update `k` at row 0, column `k`. -/
theorem lands (at_ : IVec S1 32) (h0 : at_ = fun _ => 0#32) (k : S2048.Idx) :
    scatter_S2x2048_S1_S2048_0_0_0_0.resultIdx? k at_ = some (ix2 0 (k 0)) := by
  subst h0
  refine (Routing.resultIdx?_ix2 _ _ _ _ _).2 ⟨?_, ?_⟩
  · unfold ScatterDims.start ScatterDims.window
    rw [dif_pos (by decide), dif_neg (by decide)]
    rfl
  · unfold ScatterDims.start ScatterDims.window
    rw [dif_neg (by decide), dif_pos (by decide)]
    simp
    rfl

/-- The table with row 0 set to zero is zero there. -/
theorem zeroedTable_zero (table : FVec Ideal S2x2048 .f32) (k : Fin 2048) : zeroedTable table (ix2 0 k) = (0 : EReal) := by
  refine Routing.scatter_set_hit _ _ _ _ _ 0 (fun k _ => ?_) (ix1 k) (lands _ rfl _)
  simp [broadcastInDim, constant, Ideal.ofBits, Ideal.ieee]

/-- The table with row 0 set to zero has row 1 as it was. -/
theorem zeroedTable_one (table : FVec Ideal S2x2048 .f32) (k : Fin 2048) : zeroedTable table (ix2 1 k) = table (ix2 1 k) := by
  refine Routing.scatter_set_miss _ _ _ _ _ fun k' h => ?_
  exact absurd (congrFun (Option.some.inj ((lands _ rfl k').symm.trans h)) 0) (by decide : ¬ (0 : Fin 2) = 1)

/-- The gather at an index: where the word is row `r`'s number, entry `k` of row `r`. -/
theorem gather_at (table : FVec Ideal S2x2048 .f32) (at_ : IVec S256x16x1 32) (a : Fin 256) (s : Fin 16) (k : Fin 2048)
    (r : Fin 2) (h : at_ (ix3 a s 0) = BitVec.ofNat 32 r.val) :
    Host.gather gather_S2x2048_S256x16x1_S256x16x2048_2_0_n_n_0_2_12048 table at_ (ix3 a s k) = table (ix2 r k) := by
  unfold Host.gather
  refine congrArg table (funext fun b => Fin.ext ?_)
  show GatherDims.start _ _ _ b + GatherDims.batchCoord _ _ b + GatherDims.offCoord _ _ b = _
  rw [GatherDims.batchCoord_eq_zero _ _ _ List.not_mem_nil]
  have hb : b = 0 ∨ b = 1 := by
    match b with
    | ⟨0, _⟩ => exact Or.inl rfl
    | ⟨1, _⟩ => exact Or.inr rfl
  rcases hb with rfl | rfl
  · unfold GatherDims.start GatherDims.offCoord
    rw [dif_pos (by decide), dif_neg (by decide), show GatherDims.siIdx _ _ _ = ix3 a s 0 from funext fun c => by
      match c with
      | ⟨0, _⟩ => rfl
      | ⟨1, _⟩ => rfl
      | ⟨2, _⟩ => rfl, h]
    clear h
    revert r
    show ∀ r : Fin 2, min (BitVec.ofNat 32 r.val).toInt.toNat 1 + 0 + 0 = r.val
    decide
  · unfold GatherDims.start GatherDims.offCoord
    rw [dif_neg (by decide), dif_pos (by decide)]
    simp

/-- The words at which the reference takes rows are the mask's, where these are 0 or 1. -/
theorem takeAt_apply (mask : IVec S256x16 32) (a : Fin 256) (s : Fin 16) (r : Fin 2)
    (h : mask (ix2 a s) = BitVec.ofNat 32 r.val) : takeAt mask (ix3 a s 0) = BitVec.ofNat 32 r.val := by
  unfold takeAt
  pointwise
  rw [h]
  clear h
  revert r; decide

/-- A word that is a row's number lies in the table. -/
theorem takeInside_apply (at_ : IVec S256x16x1 32) (a : Fin 256) (s : Fin 16) (r : Fin 2)
    (h : at_ (ix3 a s 0) = BitVec.ofNat 32 r.val) : takeInside at_ (ix2 a s) = 1#1 := by
  unfold takeInside
  rw [Host.reduce_eq_foldl]
  refine IntOp.foldl_andi_one _ _ _ rfl fun i hi => ?_
  have hd := of_decide_eq_true (List.mem_filter.1 hi).2
  have h0 : i 0 = a := Fin.ext (congrArg Fin.val (congrFun hd 0))
  have h1 : i 1 = s := Fin.ext (congrArg Fin.val (congrFun hd 1))
  have h2 : i 2 = (0 : Fin 1) := Subsingleton.elim (α := Fin 1) _ _
  obtain rfl : i = ix3 a s 0 := by rw [eq_ix3 i, h0, h1, h2]
  pointwise
  rw [h]
  clear * -
  revert r; decide

/-- The reference's masked shots at an index, where the mask's words are 0 or 1. -/
theorem refShots_apply (shot : FVec Ideal S256x16x2048 .f32) (mask : IVec S256x16 32) (table : FVec Ideal S2x2048 .f32)
    (a : Fin 256) (s : Fin 16) (k : Fin 2048) (h : mask (ix2 a s) = 0#32 ∨ mask (ix2 a s) = 1#32) :
    refShots shot mask table (ix3 a s k)
      = masked (fun s k => shot (ix3 a s k)) (fun s => mask (ix2 a s)) (fun k => table (ix2 1 k)) s k := by
  have key : ∀ r : Fin 2, mask (ix2 a s) = BitVec.ofNat 32 r.val →
      refShots shot mask table (ix3 a s k)
        = shot (ix3 a s k) * (((1#32 - BitVec.ofNat 32 r.val).toInt : ℝ) : EReal) + zeroedTable table (ix2 r k) := fun r hr => by
    have h1 := takeAt_apply mask a s r hr
    have h2 := takeInside_apply _ a s r h1
    have h3 := gather_at (zeroedTable table) _ a s k r h1
    unfold refShots taken
    pointwise
    rw [h2, h3, hr]
    rfl
  unfold masked
  rcases h with h | h
  · rw [key 0 h, if_pos h, zeroedTable_zero]; simp
  · rw [key 1 h, if_neg (by show mask (ix2 a s) ≠ 0#32; rw [h]; decide), zeroedTable_one]; simp

end Cert.Emb

end
-- ==== Proof.RefRow.lean ====
/-
  The reference's result at an index, and the reference's run. The reference puts the mean of the sixteen masked shots before
  them, projects the seventeen rows, adds bias and position, and normalises each row by dividing by its standard deviation.
-/
module

public import proofs.«01_k».proof.Proof.RefShots

@[expose] public section

noncomputable section

namespace Cert.Emb

open Idealize.ShloMosaic Idealize.ShloMosaic.TcCoe Idealize.SL.Sem Cert.ReferenceIdeal Cert.ReferenceIdeal.Gen

/-- The mean of the shots, put before the shots. -/
def refRows (x : FVec Ideal S256x16x2048 .f32) : FVec Ideal S256x17x2048 .f32 :=
  concatenate S256x17x2048 1
    [⟨S256x1x2048, broadcastInDim S256x1x2048 ![0, 2] bcast_S256x2048_S256x1x2048_0_2
      (Host.divf (Host.reduceAdd x (constant S_ .f32 0x00000000#32) reducesTo_S256x16x2048_S256x2048_d1 h_S_)
        (broadcastInDim S256x2048 ![] bcast_S_S256x2048 (constant S_ .f32 0x41800000#32)))⟩, ⟨S256x16x2048, x⟩]
    concatenates_S256x1x2048_S256x16x2048_S256x17x2048_d1

/-- The rows projected, with bias and position added. -/
def refHidden (rows : FVec Ideal S256x17x2048 .f32) (w : FVec Ideal S768x2048 .f32) (bias : FVec Ideal S768 .f32)
    (pos : FVec Ideal S17x768 .f32) : FVec Ideal S256x17x768 .f32 :=
  addf (addf (Host.dotGeneral dot_S256x17x2048_S2048x768_S256x17x768_2_0_01_1_n_n none rows
        (transpose S2048x768 [1, 0] w transposes_S768x2048_S2048x768_1_0))
      (broadcastInDim S256x17x768 ![0, 1, 2] bcast_S1x1x768_S256x17x768_0_1_2
        (broadcastInDim S1x1x768 ![2] bcast_S768_S1x1x768_2 bias)))
    (broadcastInDim S256x17x768 ![0, 1, 2] bcast_S1x17x768_S256x17x768_0_1_2
      (broadcastInDim S1x17x768 ![1, 2] bcast_S17x768_S1x17x768_1_2 pos))

/-- The mean of each row of width 768. -/
def refMean (h : FVec Ideal S256x17x768 .f32) : FVec Ideal S256x17x1 .f32 :=
  Host.divf (broadcastInDim S256x17x1 ![0, 1] bcast_S256x17_S256x17x1_0_1
      (Host.reduceAdd h (constant S_ .f32 0x00000000#32) reducesTo_S256x17x768_S256x17_d2 h_S_))
    (broadcastInDim S256x17x1 ![] bcast_S_S256x17x1 (constant S_ .f32 0x44400000#32))

/-- Each row less its mean. -/
def refCentred (h : FVec Ideal S256x17x768 .f32) : FVec Ideal S256x17x768 .f32 :=
  subf h (broadcastInDim S256x17x768 ![0, 1, 2] bcast_S256x17x1_S256x17x768_0_1_2 (refMean h))

/-- The rows normalised, scaled and shifted. -/
def refNorm (h : FVec Ideal S256x17x768 .f32) (g b : FVec Ideal S768 .f32) : FVec Ideal S256x17x768 .f32 :=
  addf (mulf (Host.divf (refCentred h)
      (broadcastInDim S256x17x768 ![0, 1, 2] bcast_S256x17x1_S256x17x768_0_1_2
        (Host.sqrt (addf (refMean (mulf (refCentred h) (refCentred h)))
          (broadcastInDim S256x17x1 ![] bcast_S_S256x17x1 (constant S_ .f32 0x2B8CBCCC#32))))))
      (broadcastInDim S256x17x768 ![0, 1, 2] bcast_S1x1x768_S256x17x768_0_1_2
        (broadcastInDim S1x1x768 ![2] bcast_S768_S1x1x768_2 g)))
    (broadcastInDim S256x17x768 ![0, 1, 2] bcast_S1x1x768_S256x17x768_0_1_2
      (broadcastInDim S1x1x768 ![2] bcast_S768_S1x1x768_2 b))

/-- Row 0 is the mean of the shots. -/
theorem refRows_zero (x : FVec Ideal S256x16x2048 .f32) (a : Fin 256) (k : Fin 2048) :
    refRows x (ix3 a 0 k) = Ideal.div (∑ s : Fin 16, x (ix3 a s k)) shots := by
  unfold refRows
  pointwise

/-- Row `s + 1` is shot `s`. -/
theorem refRows_succ (x : FVec Ideal S256x16x2048 .f32) (a : Fin 256) (s : Fin 16) (k : Fin 2048) :
    refRows x (ix3 a s.succ k) = x (ix3 a s k) := by
  unfold refRows
  pointwise
  rw [dif_neg (by simp)]
  rfl

/-- The projected rows at an index. -/
theorem refHidden_apply (rows : FVec Ideal S256x17x2048 .f32) (w : FVec Ideal S768x2048 .f32) (bias : FVec Ideal S768 .f32)
    (pos : FVec Ideal S17x768 .f32) (a : Fin 256) (r : Fin 17) (i : Fin 768) :
    refHidden rows w bias pos (ix3 a r i)
      = (∑ k : Fin 2048, rows (ix3 a r k) * w (ix2 i k) : EReal) + bias (ix1 i) + pos (ix2 r i) := by
  unfold refHidden
  pointwise

/-- The mean of a row. -/
theorem refMean_apply (h : FVec Ideal S256x17x768 .f32) (a : Fin 256) (r : Fin 17) :
    refMean h (ix3 a r 0) = mean fun i => h (ix3 a r i) := by
  unfold refMean
  pointwise
  rfl

/-- A row less its mean. -/
theorem refCentred_apply (h : FVec Ideal S256x17x768 .f32) (a : Fin 256) (r : Fin 17) (j : Fin 768) :
    refCentred h (ix3 a r j) = (h (ix3 a r j) - mean fun i => h (ix3 a r i) : EReal) := by
  unfold refCentred
  pointwise
  rw [refMean_apply]

/-- The normalised rows at an index. -/
theorem refNorm_apply (h : FVec Ideal S256x17x768 .f32) (g b : FVec Ideal S768 .f32) (a : Fin 256) (r : Fin 17) (j : Fin 768) :
    refNorm h g b (ix3 a r j) = normDiv (fun i => h (ix3 a r i)) (g (ix1 j)) (b (ix1 j)) j := by
  unfold refNorm
  pointwise
  rw [refMean_apply, refCentred_apply]
  have e : ∀ i, mulf (refCentred h) (refCentred h) (ix3 a r i)
      = ((h (ix3 a r i) - mean fun i => h (ix3 a r i)) * (h (ix3 a r i) - mean fun i => h (ix3 a r i)) : EReal) := fun i =>
    congrArg₂ (· * · : EReal → EReal → EReal) (refCentred_apply h a r i) (refCentred_apply h a r i)
  simp only [e]
  rfl

variable (m : (ℓ : Loc nD τ sig) → Buf (Elt Ideal) ℓ) (c : Dev nD)

/-- The reference's result is these steps, one after another. -/
theorem result_steps : Value.res_out0 (F := Ideal) m c
    = refNorm (refHidden (refRows (refShots (m ((c : Thread nD τ).loc main_arg0)) (m ((c : Thread nD τ).loc main_arg1))
          (m ((c : Thread nD τ).loc main_arg5)))) (m ((c : Thread nD τ).loc main_arg2)) (m ((c : Thread nD τ).loc main_arg3))
        (m ((c : Thread nD τ).loc main_arg4))) (m ((c : Thread nD τ).loc main_arg6)) (m ((c : Thread nD τ).loc main_arg7)) := by
  unfold Value.res_out0 Value.res_main_v47
  rfl

/-- Under the two conditions on the arrays, the reference's result is, at every index, the row of Rows.lean in the reference's
    spelling. -/
theorem result_apply (hmask : ∀ i, m ((c : Thread nD τ).loc main_arg1) i = 0#32 ∨ m ((c : Thread nD τ).loc main_arg1) i = 1#32)
    (a : Fin 256) (r : Fin 17) (j : Fin 768) :
    Value.res_out0 (F := Ideal) m c (ix3 a r j)
      = outRowRef (masked (fun s k => m ((c : Thread nD τ).loc main_arg0) (ix3 a s k))
            (fun s => m ((c : Thread nD τ).loc main_arg1) (ix2 a s)) (fun k => m ((c : Thread nD τ).loc main_arg5) (ix2 1 k)))
          (fun i k => m ((c : Thread nD τ).loc main_arg2) (ix2 i k)) (fun i => m ((c : Thread nD τ).loc main_arg3) (ix1 i))
          (fun r i => m ((c : Thread nD τ).loc main_arg4) (ix2 r i)) (fun i => m ((c : Thread nD τ).loc main_arg6) (ix1 i))
          (fun i => m ((c : Thread nD τ).loc main_arg7) (ix1 i)) r j := by
  rw [result_steps, refNorm_apply]
  unfold outRowRef
  congr 1
  refine funext fun i => ?_
  rw [refHidden_apply]
  congr 2
  refine Fin.cases ?_ (fun s => ?_) r
  · rw [Fin.cases_zero]
    unfold projMean
    refine Finset.sum_congr rfl fun k _ => ?_
    rw [refRows_zero]
    congr 2
    exact Finset.sum_congr rfl fun s _ => refShots_apply _ _ _ a s k (hmask _)
  · rw [Fin.cases_succ]
    refine Finset.sum_congr rfl fun k _ => ?_
    rw [refRows_succ, refShots_apply _ _ _ a s k (hmask _)]

end Cert.Emb

end
-- ==== Proof.Pre.lean ====
/-
  What the precondition says of the arrays: every mask word is 0 or 1, and no weight is infinite.
-/
module

public import proofs.«01_k».proof.Pre_zero_one_mask_finite_weight
public import proofs.«01_k».proof.Proof.Math
public import Idealize.ShloMosaic.Lib.ReduceAll
public import Idealize.ShloMosaic.Lib.Pointwise

@[expose] public section

noncomputable section

namespace Cert.Emb

open Idealize.ShloMosaic Cert.Pre_zero_one_mask_finite_weight

/-- The shape relations the precondition's operations take. -/
theorem pre_facts : Cert.Pre_zero_one_mask_finite_weight.Facts where
  bcast_S_S256x16 := by decide
  reducesTo_S256x16_S_d0_1 := by decide
  h_S_ := by decide
  bcast_S_S768x2048 := by decide
  reducesTo_S768x2048_S_d0_1 := by decide

/-- The array of no axes has one index. -/
instance : Subsingleton (Cert.Pre_zero_one_mask_finite_weight.S_).Idx := ⟨fun _ _ => funext fun a => a.elim0⟩

/-- A word for which "equals 0, or equals 1" came out true is 0 or 1. -/
theorem zero_or_one (v : BitVec 32) (h : IntOp.ori (IntOp.cmpi .eq v 0#32) (IntOp.cmpi .eq v 1#32) = 1#1) :
    v = 0#32 ∨ v = 1#32 := by
  by_cases h0 : v = 0#32
  · exact Or.inl h0
  · by_cases h1 : v = 1#32
    · exact Or.inr h1
    · have e : IntOp.ori (IntOp.cmpi .eq v 0#32) (IntOp.cmpi .eq v 1#32) = 0#1 := by
        have e0 : (v == 0#32) = false := beq_eq_false_iff_ne.2 h0
        have e1 : (v == 1#32) = false := beq_eq_false_iff_ne.2 h1
        simp only [IntOp.cmpi, e0, e1]; rfl
      rw [e] at h
      exact absurd h (by decide)

/-- A value whose absolute value is below the word of infinity is not infinite. -/
theorem not_inf_of_lt (x : EReal) (h : Ideal.cmp .olt (max x (-x)) (Ideal.ofBits .f32 0x7F800000#32) = 1#1) : ¬ Inf x := by
  rintro (rfl | rfl) <;> simp [Ideal.cmp, Ideal.ofBits, Ideal.ieee] at h

variable [Cert.Pre_zero_one_mask_finite_weight.Facts] {shot : FVec Ideal S256x16x2048 .f32} {mask : IVec S256x16 32}
  {w : FVec Ideal S768x2048 .f32} {bias : FVec Ideal S768 .f32} {pos : FVec Ideal S17x768 .f32}
  {table : FVec Ideal S2x2048 .f32} {g b : FVec Ideal S768 .f32}

/-- The precondition is the conjunction of its two halves. -/
theorem halves (h : fn (F := Ideal) shot mask w bias pos table g b = fun _ => 1#1) :
    (∀ i : S256x16.Idx, IntOp.ori (IntOp.cmpi .eq (mask i) 0#32) (IntOp.cmpi .eq (mask i) 1#32) = 1#1)
      ∧ ∀ i : S768x2048.Idx, Ideal.cmp .olt (max (w i) (-w i)) (Ideal.ofBits .f32 0x7F800000#32) = 1#1 := by
  have e := IntOp.andi_eq_one.1 (congrFun h fun a => a.elim0)
  exact ⟨fun i => Host.reduce_andi_all _ _ _ _ _ e.1 i, fun i => Host.reduce_andi_all _ _ _ _ _ e.2 i⟩

/-- Under the precondition every mask word is 0 or 1. -/
theorem mask_of_pre (h : fn (F := Ideal) shot mask w bias pos table g b = fun _ => 1#1) (i : S256x16.Idx) :
    mask i = 0#32 ∨ mask i = 1#32 :=
  zero_or_one _ ((halves h).1 i)

/-- Under the precondition no weight is infinite. -/
theorem weight_of_pre (h : fn (F := Ideal) shot mask w bias pos table g b = fun _ => 1#1) (i : S768x2048.Idx) : ¬ Inf (w i) :=
  not_inf_of_lt _ ((halves h).2 i)

end Cert.Emb

end
-- ==== Proof.Equation.lean ====
/-
  The equation between the two programs: from arguments that agree and satisfy the precondition, the reference's result is the
  embedding that the kernel's array holds.
-/
module

public import proofs.«01_k».proof.Defs
public import proofs.«01_k».proof.Proof.KernelArray
public import proofs.«01_k».proof.Proof.RefRow
public import proofs.«01_k».proof.Proof.Pre
public import Idealize.ShloMosaic.Lib.Quiescent

@[expose] public section

noncomputable section

namespace Cert.Emb

open Idealize.ShloMosaic Idealize.ShloMosaic.TcCoe Idealize.SL.Sem

/-- The reference's frame: it runs, its arguments end as they were, and every semaphore counter ends at zero, since it has no
    semaphores. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result is the embedding of the kernel's arguments, when the two programs' arguments agree and satisfy the
    precondition. -/
theorem results_eq (c : Dev Cert.KernelIdeal.nD)
    (hpre : Cert.Pre_KernelIdeal_zero_one_mask_finite_weight (hPre_zero_one_mask_finite_weight := pre_facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_out0 (F := Ideal) m' c = embedOf m c := by
  have : Cert.Pre_zero_one_mask_finite_weight.Facts := pre_facts
  funext i
  rw [eq_ix3 i]
  refine (result_apply m' c (fun i => ?_) _ _ _).trans ?_
  · rw [h1]; exact mask_of_pre (hpre c) i
  · rw [h0, h1, h2, h3, h4, h5, h6, h7]
    exact outRowRef_eq _ _ (fun a k => weight_of_pre (hpre c) (ix2 a k)) _ _ _ _ _ _

/-- The algebraic claim: the two programs end with the same array. -/
theorem algebraic : Cert.algebraic_KernelIdeal_ReferenceIdeal_pre_zero_one_mask_finite_weight
    (hKernelIdeal := Cert.KernelIdeal.Gen.facts) (hReferenceIdeal := Cert.ReferenceIdeal.Gen.facts)
    (hPre_zero_one_mask_finite_weight := pre_facts) := by
  intro m ρ m' ρ' hpre hagree
  refine ⟨fun c => embedOf m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact results_eq m m' c hpre h0 h1 h2 h3 h4 h5 h6 h7

end Cert.Emb

end
-- ==== Proof.lean ====
/-
  The certificate's claim, put together. The frames of the kernel, as printed and as idealized, are the generated ones; the
  reference's frame and the equation of the two results are Equation.lean's; the idealization rewrote no operation.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Emb.pre_facts,
    fun m ρ _ => Cert.Kernel.Gen.frame m ρ,
    fun m ρ _ => Cert.KernelIdeal.Gen.frame m ρ,
    fun m ρ _ => Cert.KernelIdeal.Gen.frame m ρ,
    Cert.Emb.reference_frame,
    fun m ρ _ => Cert.Emb.reference_frame m ρ trivial,
    trivial,
    Cert.Emb.algebraic⟩

end Cert.Proof

end
